-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | .local _ .vmem, ⟨1, _⟩ => ⟨S512x256, .f32⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v23 : BitVec 32 := Scalar.muli v9 c16_i32_11
  let v24 : BitVec 32 := Scalar.addi c0_i32_12 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v25 : BitVec 32 := Scalar.muli v5 c4_i32_13
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v27 : BitVec 32 := Scalar.muli v8 c1_i32_14
  let v28 : BitVec 32 := Scalar.addi v26 v27
  v28.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v32 : Index := Scalar.indexCast v31
  let c0_17 : Index := 0#32
  ![v32.toNat, 0]
def k0_off2 (d0 : Dev nD) : Fin 2 → Nat :=
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v42 : BitVec 32 := Scalar.subi c1_i32_24 v2
  let c256_i32_25 : BitVec 32 := 256#32
  let v43 : BitVec 32 := Scalar.muli v42 c256_i32_25
  let v44 : Index := Scalar.indexCast v43
  let c0_26 : Index := 0#32
  ![v44.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Protocol.lean ====
/-
  The exchange of the statement as a protocol: who the partner is, which three counters each device has, what each of
  them hands over when it is paid, and in which order they are waited on.

  The mesh is 2 × 4 × 4 and the array is cut in two along the first axis. Device `c` holds rows `256·(c / 16) …` and
  exchanges with the device that differs from it in the first coordinate only (`peer c`). Each device

  * tells its partner through the barrier counter that its receive buffer may be written;
  * narrows its half to bf16 in its send buffer, and waits for the partner's word on its own barrier counter;
  * copies the send buffer into the partner's receive buffer, counted by its send counter and the partner's receive
    counter;
  * writes its own half of the result from its argument, waits for its receive counter, writes the other half from
    the receive buffer widened to f32, and waits for its send counter.

  The three counters are named by `Role`. Everything the counters need is a table over `Role` — the counter, the amount
  it waits for, what is handed over, its place in the order of waits — and each fact about the schedule is one statement
  for all three.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: one copy of the rounds algebra for the staging pipeline, one for the exchange -/

abbrev Ghost : Type := UR sig nD τ × URounds (GSem nD τ sig) Unit

local notation "𝕄" => MT nD τ sig Unit (Elt F) ℕ Ghost ℕ

abbrev stagingEmb : Emb (UR sig nD τ) (MT nD τ sig Unit (Elt F) ℕ Ghost ℕ) := embL
abbrev exEmb : Emb (URounds (GSem nD τ sig) Unit) (MT nD τ sig Unit (Elt F) ℕ Ghost ℕ) := embR

variable (m : (ℓ : Loc nD τ sig) → Buf (Elt F) ℓ)

/-! ## The partner -/

set_option backward.proofsInPublic true in
/-- The device that differs from `c` in the first mesh coordinate only. -/
def peer (c : Dev nD) : Dev nD := ⟨(c.val + 16) % 32, Nat.mod_lt _ (by decide)⟩

theorem peer_peer (c : Dev nD) : peer (peer c) = c := by revert c; decide

/-- The partner as a bijection of the devices: its own inverse. -/
def pairing : Dev nD ≃ Dev nD := ⟨peer, peer, peer_peer, peer_peer⟩

theorem eq_peer_comm {c d : Dev nD} : c = peer d ↔ d = peer c :=
  ⟨fun h => by rw [h, peer_peer], fun h => by rw [h, peer_peer]⟩

/-- The device the kernel computes for its signal is the partner, -/
theorem dev1_eq (c : Dev nD) : (⟨k0_dev1 c, k0_dev1_lt c⟩ : Dev nD) = peer c := by revert c; decide +kernel
/-- and so is the one it computes for its transfer. -/
theorem dev2_eq (c : Dev nD) : (⟨k0_dev2 c, k0_dev2_lt c⟩ : Dev nD) = peer c := by revert c; decide +kernel

/-! ## The buffers and what they hold -/

/-- The memory the run starts in: any contents `m`, every counter at zero, any generator registers `ρ`. -/
def initial (ρ : Dev nD → PrngReg) : MemSt nD τ sig (Elt F) := ⟨m, fun _ => 0, ρ⟩

abbrev argM : Memref sig .tc .vmem S256x256 .f32 := Memref.whole cc0_stg0_0
abbrev resM : Memref sig .tc .vmem S512x256 .f32 := Memref.whole cc0_stg1_0
abbrev sendM : Memref sig .tc .vmem S256x256 .bf16 := Memref.whole cc0_scratch0
abbrev recvM : Memref sig .tc .vmem S256x256 .bf16 := Memref.whole cc0_scratch1

/-- Device `c`'s half of the array, as its staging buffer holds it. -/
def half (c : Dev nD) : (cc0_stg0_0 : Ref sig .tc).ty.Contents (Elt F) :=
  (win0_0.blk (0 : Fin 1)).view.read (Elt F) (m ((c : Thread nD τ).loc main_arg0))

/-- What device `c` sends: its half narrowed to bf16. -/
def sent (c : Dev nD) : FVec F S256x256 .bf16 := k0_pay2 (half m c)

/-- On device `c`, the whole of the buffer `b` holding `f`. -/
abbrev has (c : Dev nD) (b : Ref sig .tc) (f : Buf (Elt F) (View.loc (c : Thread nD τ) (Memref.whole b).view)) : sProp 𝕄 :=
  iprop(View.loc (c : Thread nD τ) (Memref.whole b).view ↦[(Memref.whole b).view.set]{fullShare} f)

/-! ## The three counters -/

/-- The three counters each device has a part in: the barrier (its partner is ready), the send counter (its copy has
    left), the receive counter (its partner's copy has arrived). -/
inductive Role | bar | send | recv
  deriving DecidableEq

theorem Role.mem_list (k : Role) : k ∈ [Role.bar, Role.send, Role.recv] := by cases k <;> decide

instance : Fintype Role := ⟨⟨↑[Role.bar, Role.send, Role.recv], by decide⟩, Role.mem_list⟩

/-- The barrier counter of the kernel's collective id, -/
abbrev barSem : SemLoc sig := .reg (SemArray.scalar (sig.barrier 0 rfl) : Sems sig S_).sem
/-- the send counter, -/
abbrev sendSem : SemLoc sig := .dma cc0_scratch2.sem
/-- and the receive counter, as the kernel names them; -/
abbrev recvSem : SemLoc sig := .dma cc0_scratch3.sem

/-- the counter a role names on a device. -/
def sem : Role → SemLoc sig
  | .bar => barSem
  | .send => sendSem
  | .recv => recvSem

theorem sem_injective : Function.Injective sem := by
  intro a b h; cases a <;> cases b <;> first | rfl | exact absurd h (by decide)

/-- The role of a counter, if it is one of the three. -/
def roleOf (s : SemLoc sig) : Option Role :=
  if s = sem .bar then some .bar else if s = sem .send then some .send else if s = sem .recv then some .recv else none

theorem roleOf_sem (k : Role) : roleOf (sem k) = some k := by cases k <;> decide

/-- Device `c`'s counter of role `k`. -/
abbrev cell (c : Dev nD) (k : Role) : GSem nD τ sig := ((c : Thread nD τ), sem k)

theorem cell_inj {c d : Dev nD} {k j : Role} : cell c k = cell d j ↔ c = d ∧ k = j := by
  constructor
  · intro h
    exact ⟨congrArg (fun g : GSem nD τ sig => g.1.1) h, sem_injective (congrArg Prod.snd h)⟩
  · rintro ⟨rfl, rfl⟩; rfl

/-- The bytes' worth of credit one copy of the send buffer is. -/
abbrev copied : ℕ := (recvM : Memref sig .tc .vmem S256x256 .bf16).view.dmaCredit

/-- What a role's counter is paid: one unit at the barrier, a copy's credit at the other two. -/
def amt : Role → ℕ
  | .bar => 1
  | _ => copied

theorem amt_pos (k : Role) : 0 < amt k := by
  cases k
  · exact Nat.one_pos
  all_goals exact View.dmaCredit_pos _ (by decide)

/-- What is handed to device `c` when its counter of role `k` is paid: at the barrier, its partner's receive buffer and
    that the partner's receive counter is open; at the send counter, its own send buffer back; at the receive counter,
    its receive buffer holding what its partner sent. -/
def handed (c : Dev nD) : Role → sProp 𝕄
  | .bar => iprop((∃ f, has (peer c) cc0_scratch1 f) ∗ reached exEmb (cell (peer c) .recv) 0)
  | .send => has c cc0_scratch0 (sent m c)
  | .recv => has c cc0_scratch1 (sent m (peer c))

instance handed_storable (c : Dev nD) (k : Role) : BI.Storable (upEmb : UEmb _ 𝕄) (handed (F := F) m c k) := by
  cases k <;> dsimp only [handed] <;> infer_instance

/-! ## The schedule: every counter is paid once, in one payment -/

def sched : Rounds.Schedule (GSem nD τ sig) Unit 𝕄 where
  duties g r := if r = 0 ∧ g.1.2 = .tc ∧ (roleOf g.2).isSome then {()} else ∅
  unitless _ := False
  amount g _ _ := (roleOf g.2).elim 1 amt
  payload g _ _ := (roleOf g.2).elim iprop(emp) (handed m g.1.1)
  amount_pos g _ _ _ := by
    cases roleOf g.2 with
    | none => exact Nat.one_pos
    | some k => exact amt_pos k

instance sched_storable (g : GSem nD τ sig) (r : ℕ) (d : Unit) : BI.Storable (upEmb : UEmb _ 𝕄) ((sched (F := F) m).payload g r d) := by
  show BI.Storable upEmb ((roleOf g.2).elim iprop(emp) (handed m g.1.1))
  cases roleOf g.2 <;> dsimp only [Option.elim] <;> infer_instance

section Tables
variable (c : Dev nD) (k : Role)

theorem duties_cell : (sched (F := F) m).duties (cell c k) 0 = {()} := by
  dsimp only [sched]; rw [roleOf_sem]; exact if_pos ⟨rfl, rfl, rfl⟩
theorem duties_later (g : GSem nD τ sig) : ∀ r, 1 ≤ r → (sched (F := F) m).duties g r = ∅ :=
  fun r hr => by dsimp only [sched]; exact if_neg fun h => by omega
theorem mem_duties (u : Unit) : u ∈ (sched (F := F) m).duties (cell c k) 0 := by
  rw [duties_cell]; exact Finset.mem_singleton_self _
theorem amount_cell (u : Unit) : (sched (F := F) m).amount (cell c k) 0 u = amt k := by
  dsimp only [sched]; rw [roleOf_sem]; rfl
theorem payload_cell (u : Unit) : (sched (F := F) m).payload (cell c k) 0 u = handed m c k := by
  dsimp only [sched]; rw [roleOf_sem]; rfl
theorem expect_cell : (sched (F := F) m).expect (cell c k) 0 = amt k := by
  unfold Schedule.expect Schedule.amountOf; rw [duties_cell, Finset.sum_singleton, amount_cell]
/-- What the owner of a counter gets for waiting the round out. -/
theorem rest_cell :
    bigSep ((sched (F := F) m).duties (cell c k) 0 \ ∅) (fun u => (sched (F := F) m).payload (cell c k) 0 u) = handed m c k := by
  rw [Finset.sdiff_empty, duties_cell, bigSep_singleton, payload_cell]

end Tables

/-! ## What a device owes at launch, and the order of the waits -/

/-- Device `c` owes its partner the copy and the word that its own receive buffer may be written. -/
def debt (c : Dev nD) : CellTallies nD τ sig Unit :=
  tallyAt (cell (peer c) .recv) () copied + tallyAt (cell (peer c) .bar) () 1

/-- The place of a counter in the order of waits: the barrier before the receive counter, every other counter — the
    send counter and the staging's own — before both. -/
def place (s : SemLoc sig) : ℕ := (roleOf s).elim 0 fun | .bar => 1 | .send => 0 | .recv => 2

def named (g : GSem nD τ sig) : Finset Unit := if g.1.2 = .tc then {()} else ∅
def level (g : GSem nD τ sig) (_ : Unit) : ℕ := place g.2

theorem named_other (g : GSem nD τ sig) (h : g.1.2 ≠ .tc) : named g = ∅ := if_neg h

/-- A device may wait on a counter while everything it owes comes later in the order. -/
theorem mayWait_before (c : Dev nD) (s : SemLoc sig) (O : CellTallies nD τ sig Unit)
    (h : ∀ g u, 0 < O g u → g.1.2 = .tc ∧ place s < place g.2) : (levAts named level : sProp 𝕄) ⊢ MayWait (c : Thread nD τ) s () O :=
  MayOwe.of_cut (L := named) (lev := level) (place s)
    (fun p hp => by rw [Finset.mem_singleton.mp hp]; unfold named; rw [if_pos rfl]; exact Finset.mem_singleton_self _)
    (fun g u hg => by unfold named; rw [if_pos (h g u hg).1]; exact Finset.mem_singleton_self _)
    (fun p hp => by rw [Finset.mem_singleton.mp hp]; exact le_rfl)
    (fun g u hg => (h g u hg).2)

theorem place_bar : place (sem .bar) = 1 := by decide
theorem place_recv : place (sem .recv) = 2 := by decide

theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem debt_pos {c : Dev nD} {g : GSem nD τ sig} {u : Unit} (h : 0 < debt c g u) : g = cell (peer c) .recv ∨ g = cell (peer c) .bar := by
  unfold debt at h
  rw [Pi.add_apply, Finsupp.add_apply] at h
  rcases Nat.add_pos_iff_pos_or_pos.mp h with h | h
  · exact .inl (tally_pos h)
  · exact .inr (tally_pos h)

/-- The staging's waits come before everything the device owes. -/
theorem mayWait_staging (c : Dev nD) (s : SemLoc sig) (hs : place s = 0) (O : CellTallies nD τ sig Unit) (hO : O = debt c ∨ O = 0) :
    (levAts named level : sProp 𝕄) ⊢ MayWait (c : Thread nD τ) s () O :=
  mayWait_before c s O fun g u hg => by
    rcases hO with rfl | rfl
    · rw [hs]
      rcases debt_pos hg with rfl | rfl
      · exact ⟨rfl, by rw [place_recv]; decide⟩
      · exact ⟨rfl, by rw [place_bar]; decide⟩
    · exact absurd hg (Nat.lt_irrefl 0)

/-- The barrier's wait comes before the copy the device still owes. -/
theorem mayWait_bar (c : Dev nD) :
    (levAts named level : sProp 𝕄) ⊢ MayWait (c : Thread nD τ) (sem .bar) () (tallyAt (cell (peer c) .recv) () copied) :=
  mayWait_before c _ _ fun g u hg => by rw [tally_pos hg]; exact ⟨rfl, by rw [place_bar, place_recv]; decide⟩

end Cert.Exchange

end
-- ==== Proof.Result.lean ====
/-
  What a device's result holds when its two halves have been stored, one store at a time.

  The result has 512 rows. The device's own half goes to rows `256·(c / 16) …`, the partner's to the other 256, so the
  two stores together leave nothing of what the buffer held before (`stored_both`).
-/
module

public import proofs.«01_k».proof.Proof.Protocol
public import Idealize.ShloMosaic.Lib.Pipeline.Value

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ)

set_option backward.proofsInPublic true in
/-- An index of the whole array, within the half it lies in. -/
def within (i : S512x256.Idx) : S256x256.Idx :=
  Shape.pair ⟨(i 0).val % 256, Nat.mod_lt _ (by decide)⟩ (i 1)

/-- Device `c`'s result: its own half as it holds it, the other half as its partner sent it, widened to f32. -/
def result (c : Dev nD) : (cc0_stg1_0 : Ref sig .tc).ty.Contents (Elt F) := fun i =>
  if (i 0).val / 256 = c.val / 16 then k0_pay3 (half m c) (within i) else k0_pay1 (sent m (peer c)) (within i)

/-- The rows of the result device `c`'s own half goes to, -/
abbrev ownRows (c : Dev nD) : Rect S512x256 := Rect.unit (s := S512x256) (k0_off1 c) S256x256.size (k0_off1_inb c)
/-- and those its partner's goes to. -/
abbrev otherRows (c : Dev nD) : Rect S512x256 := Rect.unit (s := S512x256) (k0_off2 c) S256x256.size (k0_off2_inb c)

/-- Where a store of one half leaves its half: at the rows `256·b …` of it. -/
theorem updateSlice_half {α : Type} (f : S512x256.Idx → α) (w : S256x256.Idx → α) (off : Fin 2 → ℕ) (b : ℕ) (hoff : off = ![256 * b, 0])
    (h : S512x256.Slices off S256x256) (i : S512x256.Idx) :
    updateSlice f w off h i = if (i 0).val / 256 = b then w (within i) else f i := by
  subst hoff
  have h1 : (i 1).val < 256 := (i 1).isLt
  unfold updateSlice
  by_cases hb : (i 0).val / 256 = b
  · have hin : ∀ a : Fin S512x256.rank, (![256 * b, 0] : Fin 2 → ℕ) a ≤ (i a).val ∧ (i a).val < (![256 * b, 0] : Fin 2 → ℕ) a + S256x256.size (a.cast h.1.symm) := by
      intro a
      fin_cases a
      · show 256 * b ≤ (i 0).val ∧ (i 0).val < 256 * b + 256
        omega
      · show 0 ≤ (i 1).val ∧ (i 1).val < 0 + 256
        omega
    rw [dif_pos hin, if_pos hb]
    congr 1
    funext a
    apply Fin.ext
    fin_cases a
    · show (i 0).val - 256 * b = (i 0).val % 256
      omega
    · show (i 1).val - 0 = (i 1).val
      omega
  · rw [dif_neg, if_neg hb]
    intro hin
    have h0 : 256 * b ≤ (i 0).val ∧ (i 0).val < 256 * b + 256 := hin 0
    omega

/-- Whatever the result held, storing the own half and then the partner's leaves `result`. -/
theorem stored_both (c : Dev nD) (f : (cc0_stg1_0 : Ref sig .tc).ty.Contents (Elt F)) :
    ((resM : Memref sig .tc .vmem S512x256 .f32).access (otherRows c) : View sig .tc _ _ _).write (Elt F)
        (((resM : Memref sig .tc .vmem S512x256 .f32).access (ownRows c) : View sig .tc _ _ _).write (Elt F) f (k0_pay3 (half m c)) Finset.univ)
        (k0_pay1 (sent m (peer c))) Finset.univ
      = result m c := by
  have hc : c.val < 32 := c.isLt
  have hown (g : (cc0_stg1_0 : Ref sig .tc).ty.Contents (Elt F)) (w : S256x256.Idx → Elt F .f32) :=
    View.write_whole_slice_unit (Val := Elt F) cc0_stg1_0 (k0_off1 c) S256x256.size (k0_off1_inb c) g w
  have hother (g : (cc0_stg1_0 : Ref sig .tc).ty.Contents (Elt F)) (w : S256x256.Idx → Elt F .f32) :=
    View.write_whole_slice_unit (Val := Elt F) cc0_stg1_0 (k0_off2 c) S256x256.size (k0_off2_inb c) g w
  refine (hother _ _).trans ((congrArg (fun g => updateSlice g _ _ _) (hown _ _)).trans ?_)
  funext i
  have hi : (i 0).val < 512 := (i 0).isLt
  refine (updateSlice_half _ _ _ (1 - c.val / 16) ((k0_off2_eq c).trans ?_) _ i).trans ?_
  · congr 1; omega
  · unfold result
    by_cases h : (i 0).val / 256 = c.val / 16
    · rw [if_neg (by omega), if_pos h]
      exact (updateSlice_half _ _ _ (c.val / 16) (k0_off1_eq c) _ i).trans (if_pos h)
    · rw [if_pos (by omega), if_neg h]

end Cert.Exchange

end
-- ==== Proof.Body.lean ====
/-
  One device's run of the kernel: from what the launch deals it to its result stored, its counters back at zero.

  The run is symbolic, over the schedule of `Protocol`: the signal hands the partner this device's receive buffer, the
  barrier's wait brings the partner's, the copy fills it, and the two waits after it bring back the send buffer and this
  device's own receive buffer, filled.
-/
module

public import proofs.«01_k».proof.Proof.Result
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ)

/-! ## What is dealt -/

/-- Every counter of every device under its schedule and open: knowledge, shared by all. -/
def records (K : Dev nD × Role → ℕ) : sProp 𝕄 :=
  bigSep Finset.univ fun ck : Dev nD × Role => iprop(cellInv exEmb (sched m) (K ck) (cell ck.1 ck.2) ∗ reached exEmb (cell ck.1 ck.2) 0)

instance records_persistent (K : Dev nD × Role → ℕ) : BI.Persistent (records m K) := by unfold records; infer_instance

theorem record (K : Dev nD × Role → ℕ) (c : Dev nD) (k : Role) :
    records m K ⊢ iprop(cellInv exEmb (sched m) (K (c, k)) (cell c k) ∗ reached exEmb (cell c k) 0) :=
  bigSep_elim (Finset.mem_univ (c, k))

/-- The device whose counter of role `k` device `c` pays: the send counter is its own, the other two its partner's. -/
def target (c : Dev nD) : Role → Dev nD
  | .send => c
  | _ => peer c

/-- What device `c` alone holds: its place at its own counters, and the right to pay those it pays. -/
def dealt (c : Dev nD) : sProp 𝕄 :=
  iprop((bigSep Finset.univ fun k : Role => atPos exEmb (cell c k) 0 ∅ 0)
    ∗ bigSep Finset.univ fun k : Role => dutyTok exEmb (cell (target c k) k) 0 ())

theorem bigSep_role (Φ : Role → sProp 𝕄) : bigSep Finset.univ Φ = iprop(Φ .bar ∗ Φ .send ∗ Φ .recv) :=
  bigSep_univ_eq_bigSepL [Role.bar, Role.send, Role.recv] (by decide) (by decide) Φ

/-- What device `c` starts with, besides its buffers: the records, its share, the credit for the payments it will wait
    for, and the order of the waits. -/
def opening (c : Dev nD) : sProp 𝕄 :=
  iprop((∃ K, records m K) ∗ dealt c ∗ cred (tallyAt (cell c .bar) () 1) ∗ cred (tallyAt (cell c .recv) () copied) ∗ levAts named level)

/-- Before the run: the opening and the two scratch buffers at any contents; -/
def before (c : Dev nD) : sProp 𝕄 := iprop(opening m c ∗ (∃ f, has c cc0_scratch0 f) ∗ ∃ f, has c cc0_scratch1 f)
/-- after it: what was sent, what came, and the three counters at zero. -/
def afterwards (c : Dev nD) : sProp 𝕄 :=
  iprop(has c cc0_scratch0 (sent m c) ∗ has c cc0_scratch1 (sent m (peer c)) ∗ bigSep Finset.univ fun k : Role => semVal (cell c k) 0)

/-- The data of the one-point pipeline around the kernel. -/
def data (_ : Fin 1) (c : Dev nD) : Dat τ (Elt F) Unit ℕ Ghost ℕ cfg0 c where
  A w := m ((cfg0.win w).arr.view.loc (c : Thread nD τ))
  after w _ := match w with
    | ⟨0, _⟩ => half m c
    | ⟨1, _⟩ => result m c
  Φ t := match t with
    | ⟨0, _⟩ => before m c
    | ⟨_ + 1, _⟩ => afterwards m c
  q _ := fullShare
  owed t := match t with
    | ⟨0, _⟩ => debt c
    | ⟨_ + 1, _⟩ => 0

abbrev 𝒱₀ : Variants := Variants.none

/-! ## The schedule as the executor reads it -/

abbrev barCell (c : Dev nD) : GSem nD τ sig := ((c : Thread nD τ), barSem)
abbrev sendCell (c : Dev nD) : GSem nD τ sig := ((c : Thread nD τ), sendSem)
abbrev recvCell (c : Dev nD) : GSem nD τ sig := ((c : Thread nD τ), recvSem)

theorem duties_bar (c : Dev nD) : (sched (F := F) m).duties (barCell c) 0 = {()} := duties_cell m c .bar
theorem duties_send (c : Dev nD) : (sched (F := F) m).duties (sendCell c) 0 = {()} := duties_cell m c .send
theorem duties_recv (c : Dev nD) : (sched (F := F) m).duties (recvCell c) 0 = {()} := duties_cell m c .recv
theorem payload_bar (c : Dev nD) (u : Unit) : (sched (F := F) m).payload (barCell c) 0 u
    = iprop((∃ f, View.loc (peer c : Thread nD τ) (Memref.whole cc0_scratch1).view ↦[(Memref.whole cc0_scratch1).view.set]{fullShare} f)
      ∗ reached exEmb (recvCell (peer c)) 0) :=
  (payload_cell m c .bar u).trans rfl
theorem payload_send (c : Dev nD) (u : Unit) :
    (sched (F := F) m).payload (sendCell c) 0 u
      = (View.loc (c : Thread nD τ) (Memref.whole cc0_scratch0).view ↦[(Memref.whole cc0_scratch0).view.set]{fullShare} (sent m c)) :=
  payload_cell m c .send u
theorem payload_recv (c : Dev nD) (u : Unit) :
    (sched (F := F) m).payload (recvCell c) 0 u
      = (View.loc (c : Thread nD τ) (Memref.whole cc0_scratch1).view ↦[(Memref.whole cc0_scratch1).view.set]{fullShare} (sent m (peer c))) :=
  payload_cell m c .recv u
theorem amount_bar (c : Dev nD) (u : Unit) : (sched (F := F) m).amount (barCell c) 0 u = 1 := amount_cell m c .bar u
theorem amount_send (c : Dev nD) (u : Unit) : (sched (F := F) m).amount (sendCell c) 0 u = copied := amount_cell m c .send u
theorem amount_recv (c : Dev nD) (u : Unit) : (sched (F := F) m).amount (recvCell c) 0 u = copied := amount_cell m c .recv u
theorem expect_bar (c : Dev nD) : (sched (F := F) m).expect (barCell c) 0 = 1 := expect_cell m c .bar
theorem expect_send (c : Dev nD) : (sched (F := F) m).expect (sendCell c) 0 = copied := expect_cell m c .send
theorem expect_recv (c : Dev nD) : (sched (F := F) m).expect (recvCell c) 0 = copied := expect_cell m c .recv

theorem payload_bar_peer (c : Dev nD) (u : Unit) : (sched (F := F) m).payload (barCell (peer c)) 0 u
    = iprop((∃ f, View.loc (c : Thread nD τ) (Memref.whole cc0_scratch1).view ↦[(Memref.whole cc0_scratch1).view.set]{fullShare} f) ∗ reached exEmb (recvCell c) 0) :=
  (payload_bar m (peer c) u).trans (by rw [peer_peer])

theorem payload_recv_peer (c : Dev nD) (u : Unit) :
    (sched (F := F) m).payload (recvCell (peer c)) 0 u = iprop(View.loc (peer c : Thread nD τ) (Memref.whole cc0_scratch1).view ↦[(Memref.whole cc0_scratch1).view.set]{fullShare} (sent m c)) :=
  (payload_recv m (peer c) u).trans (by rw [peer_peer])

attribute [local sl_rounds] peer_peer duties_bar duties_send duties_recv payload_bar payload_send payload_recv amount_bar amount_send amount_recv expect_bar expect_send expect_recv

attribute [local sl_rounds high] payload_bar_peer payload_recv_peer

/-! ## The run -/

theorem zero_offsets : (![0, 0] : Fin 2 → ℕ) = fun _ => 0 := funext fun a => by fin_cases a <;> rfl

/-- Storing the narrowed half over the whole send buffer leaves it holding what is sent. -/
theorem send_written (c : Dev nD) (f : (cc0_scratch0 : Ref sig .tc).ty.Contents (Elt F)) :
    (Memref.whole cc0_scratch0 : Memref sig .tc .vmem S256x256 .bf16).view.writes (Elt F) f
      [⟨Rect.unit (s := S256x256) ![0, 0] S256x256.size inb_S256x256_S256x256_0_0,
        k0_pay2 ((Memref.whole cc0_stg0_0 : Memref sig .tc .vmem S256x256 .f32).view.readAt (Elt F)
          (Rect.unit (s := S256x256) ![0, 0] S256x256.size inb_S256x256_S256x256_0_0).toLoadRect (half m c))⟩]
      = sent m c := by
  have hr : (Memref.whole cc0_stg0_0 : Memref sig .tc .vmem S256x256 .f32).view.readAt (Elt F)
      (Rect.unit (s := S256x256) ![0, 0] S256x256.size inb_S256x256_S256x256_0_0).toLoadRect (half m c) = half m c :=
    Memref.readAt_unit_zero (Elt F) cc0_stg0_0 zero_offsets _ _
  rw [hr, View.writes_cons, View.writes_nil]
  exact Memref.write_access_unit_zero_univ (Elt F) cc0_scratch0 zero_offsets inb_S256x256_S256x256_0_0 f (k0_pay2 (half m c))

/-- Storing the two halves into the result, the second read back from the receive buffer, leaves `result`. -/
theorem result_written (c : Dev nD) (f : (cc0_stg1_0 : Ref sig .tc).ty.Contents (Elt F)) :
    (Memref.whole cc0_stg1_0 : Memref sig .tc .vmem S512x256 .f32).view.writes (Elt F) f
      [⟨otherRows c, k0_pay1 ((Memref.whole cc0_scratch1 : Memref sig .tc .vmem S256x256 .bf16).view.readAt (Elt F)
          (Rect.unit (s := S256x256) ![0, 0] S256x256.size inb_S256x256_S256x256_0_0).toLoadRect (sent m (peer c)))⟩,
        ⟨ownRows c, k0_pay3 ((Memref.whole cc0_stg0_0 : Memref sig .tc .vmem S256x256 .f32).view.readAt (Elt F)
          (Rect.unit (s := S256x256) ![0, 0] S256x256.size inb_S256x256_S256x256_0_0).toLoadRect (half m c))⟩]
      = result m c := by
  have hr : (Memref.whole cc0_stg0_0 : Memref sig .tc .vmem S256x256 .f32).view.readAt (Elt F)
      (Rect.unit (s := S256x256) ![0, 0] S256x256.size inb_S256x256_S256x256_0_0).toLoadRect (half m c) = half m c :=
    Memref.readAt_unit_zero (Elt F) cc0_stg0_0 zero_offsets _ _
  have hv : (Memref.whole cc0_scratch1 : Memref sig .tc .vmem S256x256 .bf16).view.readAt (Elt F)
      (Rect.unit (s := S256x256) ![0, 0] S256x256.size inb_S256x256_S256x256_0_0).toLoadRect (sent m (peer c)) = sent m (peer c) :=
    Memref.readAt_unit_zero (Elt F) cc0_scratch1 zero_offsets _ _
  rw [hr, hv, View.writes_cons, View.writes_cons, View.writes_nil]
  exact stored_both m c f

/-- What the copy leaves in the receive buffer is what the send buffer held. -/
theorem copy_lands (f : (cc0_scratch1 : Ref sig .tc).ty.Contents (Elt F)) (g : (cc0_scratch0 : Ref sig .tc).ty.Contents (Elt F)) :
    (recvM : Memref sig .tc .vmem S256x256 .bf16).view.write (Elt F) f
      ((sendM : Memref sig .tc .vmem S256x256 .bf16).view.read (Elt F) g) Finset.univ = g :=
  View.write_whole_univ cc0_scratch1 f g

/-- The copy to the partner: the send buffer and the partner's receive buffer are handed to the run of the transfer, which pays
the send cell of this device with the first and the receive cell of the partner with the second. -/
theorem start_copy (c n : Dev nD) (hn : n = peer c) (K : Dev nD × Role → ℕ)
    {hsc : (recvM : Memref sig (Dev.tc n : Thread nD τ).2.kind .vmem S256x256 .bf16).view.ref.isScScratch = false}
    {hsrc : (sendM : Memref sig .tc .vmem S256x256 .bf16).view.WordExact} {hdst : (recvM : Memref sig .tc .vmem S256x256 .bf16).view.WordExact}
    {hsem : DmaTarget.Typed .vmem recvSem (.remote (Dev.tc n : Thread nD τ) (recvM : Memref sig .tc .vmem S256x256 .bf16) sendSem hsc)}
    {α : Type} {Q : α → sProp 𝕄} {k : PUnit → Prog (TpuEff nD τ sig (Elt F) Λ₀ .tc) α}
    (f : (cc0_scratch1 : Ref sig .tc).ty.Contents (Elt F)) (W : Waits sig Unit) :
    iprop(cellInv exEmb (sched m) (K (c, .send)) (sendCell c) ∗ cellInv exEmb (sched m) (K (peer c, .recv)) (recvCell (peer c))
        ∗ has c cc0_scratch0 (sent m c) ∗ has (peer c) cc0_scratch1 f
        ∗ owes (c : Thread nD τ) (tallyAt (recvCell (peer c)) () copied) W
        ∗ dutyTok exEmb (sendCell c) 0 () ∗ reached exEmb (sendCell c) 0
        ∗ dutyTok exEmb (recvCell (peer c)) 0 () ∗ reached exEmb (recvCell (peer c)) 0)
      ⊢ iprop(((cred (tallyAt (sendCell c) () copied) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (Prog.lift (.enqueueDma sendM (.remote (Dev.tc n : Thread nD τ) recvM sendSem hsc) recvSem hsrc hdst hsem) >>= k) Q) := by
  subst hn
  have hop : ∀ e : TpuEff nD τ sig (Elt F) Λ₀ .tc PUnit, (Prog.lift e >>= k) = .op e k := fun e => by
    simp only [Prog.lift, Prog.bind_op, Prog.bind_ret]
  rw [hop]
  exact Rounds.wp_send_pointsTo (c' := (peer c : Thread nD τ)) (src := sendM) (dst := recvM) (hsc := hsc) (sS := sendSem) (sem := recvSem)
    (hsrc := hsrc) (hdst := hdst) (hsem := hsem) (k := k) (Q := Q) (q := fullShare) (fs := sent m c) (fd := f)
    (O₀ := tallyAt (recvCell (peer c)) () copied) 𝒱₀ exEmb (sched m) (c : Thread nD τ) none (κ₁ := K (c, .send)) (κ₂ := K (peer c, .recv))
    (r₁ := 0) (r₂ := 0) (d₁ := ()) (d₂ := ())
    (by rw [duties_send]; exact Finset.mem_singleton_self _) (by rw [duties_recv]; exact Finset.mem_singleton_self _)
    () () copied rfl (amount_send m c ()) (amount_recv m (peer c) ()) 0 (by rw [zero_add]) (W := W)
    (Entails.of_eq (payload_send m c ()).symm)
    (by rw [payload_recv_peer, copy_lands])

/-- Once its one round is over, a counter of the exchange is back at zero. -/
theorem close_cell (g : GSem nD τ sig) (κ : ℕ) :
    iprop(cellInv exEmb (sched m) κ g ∗ atPos exEmb g 1 ∅ 0) ⊢ (|={Set.univ}=> semVal g 0 : sProp 𝕄) :=
  Rounds.cell_close exEmb (sched m) (Set.mem_univ κ) (fun h => h) (R := 1) (duties_later m _)

/-- One device's run: from the records, its share of the exchange and its four buffers, to the result stored, the send and
receive buffers as the exchange leaves them, and the three counters at zero. -/
theorem run_body (c : Dev nD) (K : Dev nD × Role → ℕ) (W : Waits sig Unit)
    (g1 : (cc0_stg1_0 : Ref sig .tc).ty.Contents (Elt F)) (f0 : (cc0_scratch0 : Ref sig .tc).ty.Contents (Elt F))
    (f1 : (cc0_scratch1 : Ref sig .tc).ty.Contents (Elt F)) :
    iprop(records m K
        ∗ (atPos exEmb (barCell c) 0 ∅ 0 ∗ atPos exEmb (sendCell c) 0 ∅ 0 ∗ atPos exEmb (recvCell c) 0 ∅ 0)
        ∗ (dutyTok exEmb (barCell (peer c)) 0 () ∗ dutyTok exEmb (sendCell c) 0 () ∗ dutyTok exEmb (recvCell (peer c)) 0 ())
        ∗ cred (tallyAt (barCell c) () 1) ∗ cred (tallyAt (recvCell c) () copied) ∗ levAts named level
        ∗ owes (c : Thread nD τ) (tallyAt (recvCell (peer c)) () copied + tallyAt (barCell (peer c)) () 1) W
        ∗ ((View.loc (c : Thread nD τ) (Memref.whole cc0_stg0_0).view) ↦[(Memref.whole cc0_stg0_0).view.set]{fullShare} (half m c)) ∗ ((View.loc (c : Thread nD τ) (Memref.whole cc0_stg1_0).view) ↦[(Memref.whole cc0_stg1_0).view.set]{fullShare} g1)
        ∗ ((View.loc (c : Thread nD τ) (Memref.whole cc0_scratch0).view) ↦[(Memref.whole cc0_scratch0).view.set]{fullShare} f0) ∗ ((View.loc (c : Thread nD τ) (Memref.whole cc0_scratch1).view) ↦[(Memref.whole cc0_scratch1).view.set]{fullShare} f1))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          (fun _ => iprop((∃ W', owes (c : Thread nD τ) 0 W')
            ∗ ((View.loc (c : Thread nD τ) (Memref.whole cc0_stg0_0).view) ↦[(Memref.whole cc0_stg0_0).view.set]{fullShare} (half m c)) ∗ ((View.loc (c : Thread nD τ) (Memref.whole cc0_stg1_0).view) ↦[(Memref.whole cc0_stg1_0).view.set]{fullShare} (result m c))
            ∗ ((View.loc (c : Thread nD τ) (Memref.whole cc0_scratch0).view) ↦[(Memref.whole cc0_scratch0).view.set]{fullShare} (sent m c)) ∗ ((View.loc (c : Thread nD τ) (Memref.whole cc0_scratch1).view) ↦[(Memref.whole cc0_scratch1).view.set]{fullShare} (sent m (peer c)))
            ∗ semVal (barCell c) 0 ∗ semVal (sendCell c) 0 ∗ semVal (recvCell c) 0)) := by
  iintro ⟨#HR, ⟨HatB, HatS, HatV⟩, ⟨HtB, HtS, HtV⟩, HcB, HcV, #Hlev, HO, Hx, Hout, Hsnd, Hrcv⟩
  ihave #⟨HIB, HrB⟩ := (show _ ⊢ iprop(cellInv exEmb (sched m) (K (c, .bar)) (barCell c) ∗ reached exEmb (barCell c) 0) from record m K c .bar) $$ HR
  ihave #⟨HIS, HrS⟩ := (show _ ⊢ iprop(cellInv exEmb (sched m) (K (c, .send)) (sendCell c) ∗ reached exEmb (sendCell c) 0) from record m K c .send) $$ HR
  ihave #⟨HIV, HrV⟩ := (show _ ⊢ iprop(cellInv exEmb (sched m) (K (c, .recv)) (recvCell c) ∗ reached exEmb (recvCell c) 0) from record m K c .recv) $$ HR
  ihave #⟨HIBp, HrBp⟩ := (show _ ⊢ iprop(cellInv exEmb (sched m) (K (peer c, .bar)) (barCell (peer c)) ∗ reached exEmb (barCell (peer c)) 0) from record m K (peer c) .bar) $$ HR
  ihave #⟨HIVp, HrVp⟩ := (show _ ⊢ iprop(cellInv exEmb (sched m) (K (peer c, .recv)) (recvCell (peer c)) ∗ reached exEmb (recvCell (peer c)) 0) from record m K (peer c) .recv) $$ HR
  have hd1 := dev1_eq c
  have hd2 := dev2_eq c
  have hmw : (levAts named level : sProp 𝕄) ⊢ MayWait (c : Thread nD τ) barSem () (tallyAt (recvCell (peer c)) () copied) := mayWait_bar c
  rw [cc0_body_eq_skeleton]; unfold cc0_body_skel
  set_option sl_exec.maxSteps 12 in sl_exec
  ihave Hsnd := (Entails.of_eq (congrArg (fun f => iprop(View.loc (c : Thread nD τ) (Memref.whole cc0_scratch0).view ↦[(Memref.whole cc0_scratch0).view.set]{fullShare} f)) (send_written m c f0))) $$ Hsnd
  iapply (start_copy m c _ hd2 K HatB_pay1_v (insert (barSem, ()) W)) $$ [Hsnd HatB_pay1 HO HtS HtV]
  · isplitr; · iexact HIS
    isplitr; · iexact HIVp
    isplitl [Hsnd]; · iexact Hsnd
    isplitl [HatB_pay1]; · iexact HatB_pay1
    isplitl [HO]; · iexact HO
    isplitl [HtS]; · iexact HtS
    isplitr; · iexact HrS
    isplitl [HtV]; · iexact HtV
    iexact HrVp
  iintro ⟨HcS, HO⟩
  sl_exec
  unfold run_body.sl.r
  ihave Hout := (Entails.of_eq (congrArg (fun f => iprop(View.loc (c : Thread nD τ) (Memref.whole cc0_stg1_0).view ↦[(Memref.whole cc0_stg1_0).view.set]{fullShare} f)) (result_written m c g1))) $$ Hout
  rw [wp_ret]
  imod (close_cell m (barCell c) (K (c, .bar))) $$ [HatB] with HzB
  · isplitr; · iexact HIB
    iexact HatB
  imod (close_cell m (sendCell c) (K (c, .send))) $$ [HatS] with HzS
  · isplitr; · iexact HIS
    iexact HatS
  imod (close_cell m (recvCell c) (K (c, .recv))) $$ [HatV] with HzV
  · isplitr; · iexact HIV
    iexact HatV
  imodintro
  isplitl [HO]; · iexists _; iexact HO
  isplitl [Hx]; · iexact Hx
  isplitl [Hout]; · iexact Hout
  isplitl [HatS_pay1]; · iexact HatS_pay1
  isplitl [HatV_pay1]; · iexact HatV_pay1
  isplitl [HzB]; · iexact HzB
  isplitl [HzS]; · iexact HzS
  iexact HzV

/-! ## The library's obligation -/

/-- A fully owned buffer, as the launch spells it and as the run does. -/
theorem has_eq (c : Dev nD) (b : Ref sig .tc) (f : Buf (Elt F) ((c : Thread nD τ).loc b)) :
    (has c b f : sProp 𝕄) = (((c : Thread nD τ).loc b) ↦{fullShare} f) := by
  show ((View.whole b).loc (c : Thread nD τ) ↦[(View.whole b).set]{fullShare} f) = _
  rw [View.set_whole]

/-- A staging buffer the pipeline hands over, as the run spells it, -/
theorem owns_has (c : Dev nD) (b : Ref sig .tc) (X : b.ty.Contents (Elt F)) :
    (owns (c : Thread nD τ) (Memref.whole b) fullShare X : sProp 𝕄) ⊢ has c b X := by
  unfold owns
  iintro ⟨%f, %hf, H⟩
  have hf' : f = X := hf
  subst hf'
  iexact H

/-- and back. -/
theorem has_owns (c : Dev nD) (b : Ref sig .tc) (X : b.ty.Contents (Elt F)) :
    has c b X ⊢ (owns (c : Thread nD τ) (Memref.whole b) fullShare X : sProp 𝕄) := by
  unfold owns
  iintro H
  iexists X
  isplitr; · (ipureintro; rfl)
  iexact H

/-- What the pipeline stages for the kernel is the device's half. -/
theorem staged_half (c : Dev nD) (d : S256x256.Idx → Elt F .f32) : (data (F := F) m 0 c).before (0 : Fin 2) t0_0 d = half m c := by
  unfold Dat.before; rw [if_pos (fetch0_0 t0_0)]; rfl

set_option maxRecDepth 4000 in
/-- The body obligation of the library on device `c`. -/
theorem meets_obligation (c : Dev nD) : BodyObligation (data (F := F) m 0 c) (defs₀ (F := F)) 𝒱₀ () Set.univ := fun t => by
  rw [fin_N0 t]
  rw [bigSep_W0, bigSep_W0]
  show iprop(before m c ∗ (data (F := F) m 0 c).owesAt () t0_0.castSucc
      ∗ (∃ d, owns (c : Thread nD τ) argM fullShare ((data (F := F) m 0 c).before (0 : Fin 2) t0_0 d))
      ∗ (∃ d, owns (c : Thread nD τ) resM fullShare ((data (F := F) m 0 c).before (1 : Fin 2) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => iprop(afterwards m c ∗ (data (F := F) m 0 c).owesAt () t0_0.succ
          ∗ owns (c : Thread nD τ) argM fullShare (half m c) ∗ owns (c : Thread nD τ) resM fullShare (result m c)))
  unfold before opening dealt Dat.owesAt Pipeline.owesWithin
  rw [bigSep_role, bigSep_role]
  iintro ⟨⟨⟨⟨%K, #HR⟩, ⟨Hat, Htok⟩, HcB, HcV, #Hlev⟩, ⟨%f0, Hsnd⟩, ⟨%f1, Hrcv⟩⟩, ⟨%W, -, HO⟩, ⟨%d0, Hx⟩, ⟨%d1, Hout⟩⟩
  rw [staged_half m c d0]
  ihave Hx := (owns_has c cc0_stg0_0 (half m c)) $$ Hx
  ihave Hout := (owns_has c cc0_stg1_0 _) $$ Hout
  iapply ((run_body m c K W ((data (F := F) m 0 c).before (1 : Fin 2) t0_0 d1) f0 f1).trans (wp_mono _ _ _ fun _ => ?_))
    $$ [Hat Htok HcB HcV HO Hsnd Hrcv Hx Hout]
  · unfold afterwards
    rw [bigSep_role]
    iintro ⟨⟨%W', HO⟩, Hx, Hout, Hsnd, Hrcv, Hz⟩
    isplitl [Hsnd Hrcv Hz]
    · isplitl [Hsnd]; · iexact Hsnd
      isplitl [Hrcv]; · iexact Hrcv
      iexact Hz
    isplitl [HO]
    · iexists W'
      isplitr; · (ipureintro; exact fun _ _ => Or.inl trivial)
      iexact HO
    isplitl [Hx]
    · iapply (has_owns c cc0_stg0_0 (half m c)); iexact Hx
    iapply (has_owns c cc0_stg1_0 (result m c)); iexact Hout
  · isplitr; · iexact HR
    isplitl [Hat]; · iexact Hat
    isplitl [Htok]; · iexact Htok
    isplitl [HcB]; · iexact HcB
    isplitl [HcV]; · iexact HcV
    isplitr; · iexact Hlev
    isplitl [HO]; · iexact HO
    isplitl [Hx]; · iexact Hx
    isplitl [Hout]; · iexact Hout
    isplitl [Hsnd]; · iexact Hsnd
    iexact Hrcv

end Cert.Exchange

end
-- ==== Proof.Launched.lean ====
/-
  The launch: how the counters, the tokens and the credit the exchange runs on are made and dealt to the devices, and
  what every terminating run leaves behind.

  Everything is dealt uniformly over the pairs (device, role). A device receives its own places and the tokens of the
  counters it pays; `hand_over` says that dealing every token to its payer uses each of them once.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

/-! ## What is made -/

theorem pair_injective : Function.Injective fun ck : Dev nD × Role => cell ck.1 ck.2 := fun a b h =>
  Prod.ext (cell_inj.mp h).1 (cell_inj.mp h).2

theorem token_injective : Function.Injective fun ck : Dev nD × Role => (cell ck.1 ck.2, (0 : ℕ), ()) := fun a b h =>
  pair_injective (congrArg (fun x : GSem nD τ sig × ℕ × Unit => x.1) h)

/-- The counters of the exchange: one for each device and role, -/
def exCells : Finset (GSem nD τ sig) := Finset.univ.map ⟨_, pair_injective⟩
/-- and one token for each of them. -/
def exToks : Finset (GSem nD τ sig × ℕ × Unit) := Finset.univ.map ⟨_, token_injective⟩

/-- What the launch starts from: the staging's part and the exchange's. -/
def seed : Ghost := (initOf (Pipeline.cells cfgs cellOf_inj) (Pipeline.launchToks cfgs cellOf_inj), initOf exCells exToks)

/-- What is made of it for device `c`, of its own counters. -/
def minted (c : Dev nD) : sProp 𝕄 :=
  iprop((bigSep Finset.univ fun k : Role => iprop(roundState exEmb (sched m) (cell c k) 0 ∗ reached exEmb (cell c k) 0))
    ∗ (bigSep Finset.univ fun k : Role => atPos exEmb (cell c k) 0 ∅ 0)
    ∗ bigSep Finset.univ fun k : Role => dutyTok exEmb (cell c k) 0 ())

/-- What device `c` gets in the end: the records and its share. -/
def granted (c : Dev nD) : sProp 𝕄 := iprop((∃ K, records m K) ∗ dealt c)

theorem mint : BI.own (exEmb (initOf exCells exToks)) ⊢ (|==> bigSep Finset.univ (minted m) : sProp 𝕄) := by
  have hcells (Φ : GSem nD τ sig → sProp 𝕄) :
      bigSep exCells Φ = bigSep Finset.univ fun c : Dev nD => bigSep Finset.univ fun k : Role => Φ (cell c k) := by
    unfold exCells; rw [bigSep_map, bigSep_univ_prod]; rfl
  have htoks : bigSep exToks (fun x => (dutyTok exEmb x.1 x.2.1 x.2.2 : sProp 𝕄))
      = bigSep Finset.univ fun c : Dev nD => bigSep Finset.univ fun k : Role => dutyTok exEmb (cell c k) 0 () := by
    unfold exToks; rw [bigSep_map, bigSep_univ_prod]; rfl
  have h := Rounds.fund exEmb (sched (F := F) m) exCells exToks
  rw [hcells, hcells, hcells, htoks] at h
  refine h.trans (BI.bupd_mono ?_)
  unfold minted
  simp only [bigSep_sep']
  change (_ : sProp 𝕄) ⊢ _
  iintro ⟨Hst, Hr, Hat, Ht⟩
  isplitl [Hst Hr]
  · isplitl [Hst]; · iexact Hst
    iexact Hr
  isplitl [Hat]; · iexact Hat
  iexact Ht

/-! ## From what is made to what is dealt -/

/-- The kernel's own two counters. -/
abbrev ownSem : Fin 2 → SemLoc sig
  | 0 => sendSem
  | 1 => recvSem

theorem ownSemFacts : Pipeline.OwnSemFacts cfg0.spec ownSem := by decide

theorem ownSems_eq (c : Dev nD) : (Pipeline.ownSems0 (Ix := Unit) (Name := ℕ) (U := Ghost) (Lvl := ℕ) (Val := Elt F) (τ := τ) ownSem c : sProp 𝕄)
    = iprop(semVal (cell c .send) 0 ∗ semVal (cell c .recv) 0) := by
  rw [Pipeline.ownSems0_eq_of_list c ownSem [0, 1] (by decide) (by decide)]; rfl

/-- The barrier counter is the only one that outlives the kernel. -/
theorem otherSems_eq (c : Dev nD) : (unscopedSems0 c : sProp 𝕄) = semVal (cell c .bar) 0 := by
  unfold unscopedSems0; rw [bigSep_eq_bigSepL_of_eq [barSem] (by decide) (by decide)]; rfl

/-- One counter at zero, its schedule's state beside it, becomes a counter under its schedule. -/
theorem put_under (c : Dev nD) (k : Role) :
    iprop(semVal (cell c k) 0 ∗ roundState exEmb (sched m) (cell c k) 0 ∗ reached exEmb (cell c k) 0)
      ⊢ (|={Set.univ}=> ∃ κ : ℕ, cellInv exEmb (sched m) κ (cell c k) ∗ reached exEmb (cell c k) 0 : sProp 𝕄) := by
  iintro ⟨Hv, Hst, Hr⟩
  imod ((Rounds.body_intro exEmb (sched m) (cell c k)).trans inv_alloc) $$ [Hv Hst] with ⟨%κ, Hinv⟩
  · isplitl [Hv]; · iexact Hv
    iexact Hst
  imodintro
  iexists κ
  isplitl [Hinv]; · iexact Hinv
  iexact Hr

theorem open_device (c : Dev nD) :
    iprop(Pipeline.ownSems0 (Ix := Unit) (Name := ℕ) (U := Ghost) (Lvl := ℕ) (Val := Elt F) (τ := τ) ownSem c ∗ unscopedSems0 c ∗ minted m c)
      ⊢ |={Set.univ}=> iprop((bigSep Finset.univ fun k : Role => iprop(∃ κ : ℕ, cellInv exEmb (sched m) κ (cell c k) ∗ reached exEmb (cell c k) 0))
          ∗ (bigSep Finset.univ fun k : Role => atPos exEmb (cell c k) 0 ∅ 0)
          ∗ bigSep Finset.univ fun k : Role => dutyTok exEmb (cell c k) 0 ()) := by
  have hall := (bigSep_mono fun (k : Role) (_ : k ∈ Finset.univ) => put_under (F := F) m c k).trans (bigSep_fupd _ _)
  rw [bigSep_sep', bigSep_role (fun k => semVal (cell c k) 0)] at hall
  change (_ : sProp 𝕄) ⊢ _ at hall
  rw [ownSems_eq, otherSems_eq]
  unfold minted
  iintro ⟨⟨HS, HV⟩, HB, Hst, Hat, Ht⟩
  imod hall $$ [HS HV HB Hst] with Hinv
  · isplitr [Hst]
    · isplitl [HB]; · iexact HB
      isplitl [HS]; · iexact HS
      iexact HV
    iexact Hst
  imodintro
  isplitl [Hinv]; · iexact Hinv
  isplitl [Hat]; · iexact Hat
  iexact Ht

theorem target_target (c : Dev nD) (k : Role) : target (target c k) k = c := by cases k <;> first | rfl | exact peer_peer c

/-- Who pays whose counter, as a bijection of the counters: its own inverse. -/
def paying : Dev nD × Role ≃ Dev nD × Role :=
  ⟨fun ck => (target ck.1 ck.2, ck.2), fun ck => (target ck.1 ck.2, ck.2),
    fun ck => Prod.ext (target_target ck.1 ck.2) rfl, fun ck => Prod.ext (target_target ck.1 ck.2) rfl⟩

/-- Every device's tokens, each given to the device that pays it. -/
theorem hand_over :
    (bigSep Finset.univ fun c : Dev nD => bigSep Finset.univ fun k : Role => (dutyTok exEmb (cell c k) 0 () : sProp 𝕄))
      = bigSep Finset.univ fun c : Dev nD => bigSep Finset.univ fun k : Role => dutyTok exEmb (cell (target c k) k) 0 () := by
  rw [← bigSep_univ_prod (fun ck : Dev nD × Role => (dutyTok exEmb (cell ck.1 ck.2) 0 () : sProp 𝕄)), bigSep_univ_equiv paying, bigSep_univ_prod]
  rfl

theorem deal_all :
    (bigSep Finset.univ fun c : Dev nD => iprop((bigSep Finset.univ fun k : Role => iprop(∃ κ : ℕ, cellInv exEmb (sched m) κ (cell c k) ∗ reached exEmb (cell c k) 0))
          ∗ (bigSep Finset.univ fun k : Role => atPos exEmb (cell c k) 0 ∅ 0)
          ∗ bigSep Finset.univ fun k : Role => dutyTok exEmb (cell c k) 0 ()) : sProp 𝕄)
      ⊢ bigSep Finset.univ (granted m) := by
  unfold granted dealt
  rw [bigSep_sep', bigSep_sep', bigSep_sep', bigSep_sep', hand_over,
    ← bigSep_univ_prod (fun ck : Dev nD × Role => iprop(∃ κ : ℕ, cellInv exEmb (sched (F := F) m) κ (cell ck.1 ck.2) ∗ reached exEmb (cell ck.1 ck.2) 0))]
  refine sep_mono_left ?_
  refine (BI.bigSep_exists_pi Finset.univ (fun (ck : Dev nD × Role) (κ : ℕ) =>
    iprop(cellInv exEmb (sched (F := F) m) κ (cell ck.1 ck.2) ∗ reached exEmb (cell ck.1 ck.2) 0))).trans ?_
  exact BI.bigSep_of_persistent Finset.univ iprop(∃ K, records m K)

/-- All devices' counters are put under the schedule at once, and everything is dealt. -/
theorem deal : (bigSep Finset.univ fun c =>
      iprop(Pipeline.ownSems0 (Ix := Unit) (Name := ℕ) (U := Ghost) (Lvl := ℕ) (Val := Elt F) (τ := τ) ownSem c ∗ unscopedSems0 c ∗ minted m c) : sProp 𝕄)
    ⊢ |={Set.univ}=> bigSep Finset.univ (granted m) :=
  ((bigSep_mono fun c _ => open_device m c).trans (bigSep_fupd _ _)).trans (BI.fupd_mono (deal_all m))

/-! ## The credit -/

/-- What device `d` owes a counter of device `c`: what that counter is paid, if `d` is the partner. -/
theorem debt_at (d c : Dev nD) (k : Role) (hk : k ≠ .send) : debt d (cell c k) () = if d = peer c then amt k else 0 := by
  unfold debt
  rw [Pi.add_apply, Finsupp.add_apply, tallyAt_apply, tallyAt_apply]
  cases k
  · simp only [cell_inj, and_true, and_false, false_and, reduceCtorEq, if_false, Nat.zero_add, @eq_peer_comm c d]; rfl
  · exact absurd rfl hk
  · simp only [cell_inj, and_true, and_false, false_and, reduceCtorEq, if_false, Nat.add_zero, @eq_peer_comm c d]; rfl

/-- The launch's credit at a counter the partner pays is what the counter is paid. -/
theorem credit_at (c : Dev nD) (k : Role) (hk : k ≠ .send) :
    tallyOn (cell c k) (launchCredit (Pipeline.owing debt) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => debt_at d c k hk,
    Finset.sum_ite_eq' Finset.univ (peer c) fun _ => amt k, if_pos (Finset.mem_univ _)]

theorem credits (c : Dev nD) :
    (Pipeline.launchCred debt c : sProp 𝕄) ⊢ iprop(cred (tallyAt (cell c .bar) () 1) ∗ cred (tallyAt (cell c .recv) () copied)) := by
  unfold Pipeline.launchCred
  rw [bigSep_univ_at _ (sem .bar), credit_at c .bar (by decide)]
  refine sep_mono_right ?_
  rw [← show _ = (tallyAt (cell c .recv) () copied : CellTallies nD τ sig Unit) from credit_at c .recv (by decide)]
  exact bigSep_elim (Φ := fun s : SemLoc sig => (cred (tallyOn ((c : Thread nD τ), s) (launchCredit (Pipeline.owing debt) 0 ((c : Thread nD τ), s))) : sProp 𝕄))
    (Finset.mem_erase.mpr ⟨by decide, Finset.mem_univ (sem .recv)⟩)

/-! ## What the library's launch asks -/

theorem share_full (c : Dev nD) (w : Fin cfg0.W) : (data m 0 c).share w = fullShare := by unfold Pipeline.Dat.share; split <;> rfl

theorem starts (c : Dev nD) :
    iprop(Pipeline.unscopedRestP Pipeline.Prefetch.none cfg0.spec c (fun b => m ((c : Thread nD τ).loc b)) ∗ levAts named level
        ∗ Pipeline.launchCred debt c ∗ prngReg c (ρ c) ∗ granted m c)
      ⊢ |={Set.univ}=> iprop(opening m c ∗ emp) := by
  unfold granted opening
  iintro ⟨-, Hlev, Hcr, -, Hrec, Hd⟩
  ihave Hc := (credits (F := F) c) $$ Hcr
  icases Hc with ⟨HB, HV⟩
  imodintro
  isplitl
  · isplitl [Hrec]; · iexact Hrec
    isplitl [Hd]; · iexact Hd
    isplitl [HB]; · iexact HB
    isplitl [HV]; · iexact HV
    iexact Hlev
  · iempintro

theorem enters (c : Dev nD) :
    iprop(opening m c ∗ Pipeline.prefHeld Pipeline.Prefetch.none c (fun _ => fullShare.right) (fun k => k.elim0) ∗ Pipeline.scopedRest cfg0.spec c)
      ⊢ (data m 0 c).Φ 0 := by
  rw [show (data m 0 c).Φ 0 = before m c from rfl, scopedRest0_eq]
  unfold before
  iintro ⟨Ho, -, ⟨%f, Hs⟩, ⟨%g, Hr⟩⟩
  isplitl [Ho]; · iexact Ho
  isplitl [Hs]
  · iexists f; rw [has_eq]; iexact Hs
  · iexists g; rw [has_eq]; iexact Hr

theorem leaves (c : Dev nD) :
    (data m 0 c).Φ (Fin.last cfg0.N) ⊢ iprop(unscopedSems0 c ∗ Pipeline.ownSems0 ownSem c ∗ Pipeline.scopedRest cfg0.spec c) := by
  rw [show (data m 0 c).Φ (Fin.last cfg0.N) = afterwards m c from rfl, scopedRest0_eq, ownSems_eq, otherSems_eq]
  unfold afterwards
  rw [bigSep_role, has_eq, has_eq]
  iintro ⟨Hs, Hr, HzB, HzS, HzV⟩
  isplitl [HzB]; · iexact HzB
  isplitl [HzS HzV]
  · isplitl [HzS]; · iexact HzS
    iexact HzV
  isplitl [Hs]
  · iexists _; iexact Hs
  · iexists _; iexact Hr

theorem staging_waits (c : Dev nD) : (levAts named level : sProp 𝕄) ⊢ Pipeline.cellsWaits cfgs (data m) () 0 c :=
  Pipeline.cellsWaits_intro cfgs (data m) () 0 c fun w s t =>
    mayWait_staging c _ (by fin_cases w <;> fin_cases s <;> decide) _ (by
      rcases t with ⟨_ | _, ht⟩
      · exact Or.inl rfl
      · exact Or.inr rfl)

/-! ## The run -/

/-- What window `w`'s array holds on device `c` at the end. -/
def finalArr (c : Dev nD) (w : Fin cfg0.W) : Buf (Elt F) ((cfg0.win w).arr.view.loc (c : Thread nD τ)) := (data m 0 c).arrAt w cfg0.N

set_option maxRecDepth 8000 in
/-- For any float values, from any memory with its counters at zero: every fair run of the 32 devices ends without a
fault, with every device's arrays at the contents computed above and every counter at zero. -/
theorem run_all : θ_run defs (onTc (τ := τ) (main (F := F))) (initial m ρ) (fun r =>
    (∀ (c : Dev nD) (w : Fin cfg0.W), r.2.mem ((cfg0.win w).arr.view.loc (c : Thread nD τ)) = finalArr m c w) ∧ r.2.sem = fun _ => 0) :=
  Pipeline.θ_run_region_owing_glob_pf (fun p => (cfgs p).toPCfg) (fun p => (cfgs p).toPCfg_adm) (data m) () cellOf_inj (0 : Fin 1)
    winFacts0.to₀ ownSemFacts (Pipeline.PreFacts.none _) stagingEmb defs₀ 𝒱₀ m ρ main
    (hmain := fun _ => rfl)
    (hbody := meets_obligation m) (hne := fun w => by fin_cases w <;> exact Nat.succ_pos _) (harr := arr_whole0) (hstage := stage_whole0) (hshare := share_full m)
    (hdistinct := winFacts0.arr_inj)
    (O₀ := debt) (howed₀ := fun _ => rfl) (howedN := fun _ => rfl)
    (L := named) (lv := level) (hL := named_other) (hwaits := staging_waits m)
    (G := minted m) (G' := granted m) (u₀ := seed)
    (hu₀ := by
      unfold seed
      iintro Hu
      ihave H := (ownU_pair _ _) $$ Hu
      icases H with ⟨HP, HX⟩
      imod (mint m) $$ HX with HG
      imodintro
      isplitl [HP]; · iexact HP
      iexact HG)
    (hglob := deal m)
    (hA := fun _ _ => rfl) (hpf := fun _ k => k.elim0)
    (X := opening m) (Y := fun c => unscopedSems0 c) (Z := fun _ => iprop(emp))
    (hX := starts m ρ) (hin := enters m) (hout := leaves m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument's array holds at the end what it held; -/
theorem finalArr_arg (c : Dev nD) : finalArr m c (0 : Fin 2) = m ((c : Thread nD τ).loc main_arg0) :=
  (data (F := F) m 0 c).arrAt_in (0 : Fin 2) rfl _

end Cert.Exchange

end
-- ==== Proof.Gathered.lean ====
/-
  The value: over the reals the result of every device is the whole array.

  The result's one block is the whole result array, so what the run leaves there is `result` (`finalArr_result`). Over
  the reals a change of format is the identity, so `result` puts the two halves back where they were cut (`gathered`).
-/
module

public import proofs.«01_k».proof.Proof.Launched
public import Idealize.ShloMosaic.Lib.Layout
public import Idealize.ShloMosaic.PureOps.Ideal

@[expose] public section

noncomputable section

namespace Cert.Exchange

open Cert.KernelIdeal Cert.KernelIdeal.Gen
open Idealize.ShloMosaic
open Idealize.ShloMosaic.TcCoe

/-! ## For any float values -/

section
variable {F : FTy → Type} [FloatOps F]
variable (m : (ℓ : Loc nD τ sig) → Buf (Elt F) ℓ)

/-- A device's half is all of its argument. -/
theorem half_eq (c : Dev nD) : half m c = m ((c : Thread nD τ).loc main_arg0) :=
  Memref.read_access_unit_zero (Elt F) main_arg0 (funext fun a => by fin_cases a <;> decide) (fun a => by fin_cases a <;> decide) _

/-- The result's array holds at the end what the kernel stored. -/
theorem finalArr_result (c : Dev nD) : finalArr m c (1 : Fin 2) = result m c := by
  have hz : (fun a => (win0_1.index (0 : Fin 1)) a * main_v1.ty.shape.size a) = fun _ => 0 := funext fun a => by fin_cases a <;> decide
  have hread (f) : (win0_1.blk (0 : Fin 1)).view.read (Elt F) f = f :=
    Memref.read_access_unit_zero (Elt F) main_v1 hz (fun a => by fin_cases a <;> decide) f
  rw [← hread (finalArr m c (1 : Fin 2))]
  unfold finalArr
  rw [show cfg0.N = ((0 : Fin 1) : Fin cfg0.N).val + 1 from rfl, (data m 0 c).arrAt_succ (1 : Fin 2) (0 : Fin 1)]
  rw [show (cfg0.win (1 : Fin 2)).flush (0 : Fin 1) = true from by decide, if_pos rfl]
  exact View.read_write_univ _ _

end

/-! ## Over the reals -/

variable (m : (ℓ : Loc nD τ sig) → Buf (Elt Ideal) ℓ)

/-- What is sent is the half itself. -/
theorem sent_real (c : Dev nD) : (sent m c : S256x256.Idx → EReal) = half m c := by
  unfold sent k0_pay2
  exact (shapeCast_self _ _).trans (shapeCast_self (α := EReal) (half m c) shapeCasts_S256x256_S256x256)

/-- Where row and column `j` of device `d`'s half lie in the whole array. -/
theorem cut_here (d : Dev nD) (h : Layout.TilesN S256x256 S512x256 fun b => Layout.cutSize [2, 4, 4] ((![[0], []] : Fin 2 → List ℕ) b))
    (i : S512x256.Idx) (hi : (i 0).val / 256 = d.val / 16) :
    h.idx (Layout.meshBlock [2, 4, 4] ![[0], []] d) (within i) = i := by
  have hd : d.val < 32 := d.isLt
  funext a
  apply Fin.ext
  fin_cases a
  · show (d.val / 16 % 2 * 1 + 0) * 256 + (i 0).val % 256 = (i 0).val
    omega
  · show 0 * 256 + (i 1).val = (i 1).val
    omega

/-- If every device starts with its half of `X`, every device's result is `X`. -/
theorem gathered (X : S512x256.Idx → EReal)
    (hX : ∀ c : Dev nD, m ((c : Thread nD τ).loc main_arg0) = Layout.blockN S256x256 S512x256 (Layout.meshBlock [2, 4, 4] ![[0], []] c) X)
    (c : Dev nD) : result m c = X := by
  have hc : c.val < 32 := c.isLt
  funext i
  have hi : (i 0).val < 512 := (i 0).isLt
  have hhalf (d : Dev nD) (hd : (i 0).val / 256 = d.val / 16) : (half m d : S256x256.Idx → EReal) (within i) = X i := by
    rw [half_eq, hX d]
    exact congrArg X (cut_here d _ i hd)
  unfold result
  by_cases h : (i 0).val / 256 = c.val / 16
  · rw [if_pos h]
    exact (congrFun (shapeCast_self _ _) _).trans (hhalf c h)
  · rw [if_neg h]
    refine (congrFun (sent_real m (peer c)) (within i)).trans (hhalf (peer c) ?_)
    show (i 0).val / 256 = (c.val + 16) % 32 / 16
    omega

end Cert.Exchange

end
-- ==== Proof.lean ====
/-
  The certificate's claims, from the run of the 32 devices (`Cert.Exchange.run_all`), the value it leaves
  (`Cert.Exchange.gathered`) and the reference, which returns its argument.

  The program as printed and the one read over the reals have the same text, and the run is proved for any float
  values, so one proof of it gives both frames.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gathered
public import Idealize.ShloMosaic.Lib.StableHlo.Run
public import Idealize.ShloMosaic.Lib.Quiescent
public import Idealize.ShloMosaic.Adequacy
public import Idealize.ShloMosaic.Init

@[expose] public section

noncomputable section

namespace Cert.Proof

open Idealize.ShloMosaic Idealize.SL.Sem

/-! ## The reference -/

section
open Cert.ReferenceIdeal

/-- The reference does nothing: every buffer ends as it started. -/
theorem reference_run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m ρ)

end

/-! ## The frames -/

/-- The printed program's kernel body is the idealized program's, -/
theorem bodies_eq {F : FTy → Type} [FloatOps F] : (Cert.Kernel.defs₀ (F := F) : Defs _ _ _ _ Cert.KernelIdeal.Λ₀) = Cert.KernelIdeal.defs₀ := by
  unfold Cert.Kernel.defs₀ Cert.KernelIdeal.defs₀
  refine congrArg Defs.onTc (funext fun l => funext fun x => ?_)
  match l, x with
  | 0, x => rfl

/-- and so is everything it calls. -/
theorem defs_eq {F : FTy → Type} [FloatOps F] : Cert.Kernel.defs (F := F) = Cert.KernelIdeal.defs := congrArg (Pipeline.defs _) bodies_eq

theorem frame_kernel : Cert.quiescent_Kernel := fun m ρ _ => by
  have h := Exchange.run_all (F := Bits) m ρ
  rw [← defs_eq] at h
  exact (θ_run Cert.Kernel.defs _ _).mono
    (fun _ h => ⟨fun c => (h.1 c (0 : Fin 2)).trans (Exchange.finalArr_arg m c), h.2⟩) h

theorem frame_kernel_ideal : Cert.quiescent_KernelIdeal := fun m ρ _ =>
  (θ_run Cert.KernelIdeal.defs _ _).mono
    (fun _ h => ⟨fun c => (h.1 c (0 : Fin 2)).trans (Exchange.finalArr_arg m c), h.2⟩) (Exchange.run_all (F := Ideal) m ρ)

theorem frame_reference : Cert.quiescent_ReferenceIdeal := fun m ρ _ =>
  (θ_run Cert.ReferenceIdeal.defs _ _).mono (fun r h => ⟨h, sem_eq_zero_of_no_sems (by decide) r.2⟩) (reference_run m ρ)

/-! ## The value -/

/-- Every device's result is the whole array the reference returns. -/
theorem value : Cert.algebraic_KernelIdeal_ReferenceIdeal := fun m ρ m' ρ' _ hX =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c (1 : Fin 2)).trans ((Exchange.finalArr_result m c).trans (Exchange.gathered m _ hX c)),
        (h.1 c (0 : Fin 2)).trans (Exchange.finalArr_arg m c)⟩) (Exchange.run_all (F := Ideal) m ρ),
    (θ_run Cert.ReferenceIdeal.defs _ _).mono (fun _ h => ⟨h 0, h 0⟩) (reference_run m' ρ')⟩

theorem claim : Cert.Claim := ⟨Cert.Kernel.Gen.facts, Cert.KernelIdeal.Gen.facts, Cert.ReferenceIdeal.Gen.facts,
  frame_kernel, frame_kernel_ideal, frame_reference, trivial, value⟩

end Cert.Proof

end
